-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x10 : Shape := ⟨2, ![65536, 10]⟩
abbrev S10x150 : Shape := ⟨2, ![10, 150]⟩
abbrev S10x65536 : Shape := ⟨2, ![10, 65536]⟩
abbrev S65536x150 : Shape := ⟨2, ![65536, 150]⟩
abbrev S10x16384 : Shape := ⟨2, ![10, 16384]⟩
abbrev S16384x150 : Shape := ⟨2, ![16384, 150]⟩

abbrev nBuf : Space → Nat
  | .hbm => 4
  | .vmem => 5
  | .smem => 0
  | _ => 0

abbrev bufTy : (tb : Table) → Fin (tcTables nBuf tb) → BufTy
  | .hbm, ⟨0, _⟩ => ⟨S65536x10, .f32⟩
  | .hbm, ⟨1, _⟩ => ⟨S10x150, .f32⟩
  | .hbm, ⟨2, _⟩ => ⟨S10x65536, .f32⟩
  | .hbm, ⟨3, _⟩ => ⟨S65536x150, .f32⟩
  | .local _ .vmem, ⟨0, _⟩ => ⟨S10x16384, .f32⟩
  | .local _ .vmem, ⟨1, _⟩ => ⟨S10x16384, .f32⟩
  | .local _ .vmem, ⟨2, _⟩ => ⟨S10x150, .f32⟩
  | .local _ .vmem, ⟨3, _⟩ => ⟨S16384x150, .f32⟩
  | .local _ .vmem, ⟨4, _⟩ => ⟨S16384x150, .f32⟩
  | _, _ => ⟨S65536x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x150 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S65536x10 : Shape := ⟨2, ![65536, 10]⟩
abbrev S10x150 : Shape := ⟨2, ![10, 150]⟩
abbrev S65536x150 : Shape := ⟨2, ![65536, 150]⟩

abbrev nBuf : Space → Nat
  | .hbm => 3
  | .vmem => 0
  | .smem => 0
  | _ => 0

abbrev bufTy : (tb : Table) → Fin (tcTables nBuf tb) → BufTy
  | .hbm, ⟨0, _⟩ => ⟨S65536x10, .f32⟩
  | .hbm, ⟨1, _⟩ => ⟨S10x150, .f32⟩
  | .hbm, ⟨2, _⟩ => ⟨S65536x150, .f32⟩
  | _, _ => ⟨S65536x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Block.lean ====
/-
  What one block of the kernel computes, over the extended reals: the body's one payload, read at an element, is the sum over
  the ten contracted coordinates of the products of the two loaded blocks, the left one read transposed.
-/
module

public import proofs.«01_k».proof.Proof.Gen.KernelIdeal.Skeleton
public import Idealize.ShloMosaic.Lib.Pointwise

@[expose] public section

noncomputable section

namespace Cert.KernelIdeal.Block

open Cert.KernelIdeal Cert.KernelIdeal.Gen Idealize.ShloMosaic

/-- Element `(r, n)` of the block product: row `r` of the block is column `r` of the transposed left block. -/
theorem payload_apply (xt : Vec Ideal S10x16384 .f32) (w : Vec Ideal S10x150 .f32) (j : S16384x150.Idx) :
    k0_pay1 (F := Ideal) xt w j = ∑ k : Fin 10, xt (ix2 k (j 0)) * w (ix2 k (j 1)) := by
  pointwise [k0_pay1]

end Cert.KernelIdeal.Block

end
-- ==== Proof.Product.lean ====
/-
  The function that both programs compute, and that the host reference computes it: the product of the two argument matrices,
  element by element a sum of ten products of extended reals.
-/
module

public import proofs.«01_k».proof.Proof.Gen.ReferenceIdeal.Run
public import Idealize.ShloMosaic.Lib.Pointwise

@[expose] public section

noncomputable section

namespace Cert.ReferenceIdeal.Product

open Cert.ReferenceIdeal Cert.ReferenceIdeal.Gen Idealize.ShloMosaic

/-- The matrix product of `x` (65536 × 10) and `w` (10 × 150). -/
def product (x : FVec Ideal S65536x10 .f32) (w : FVec Ideal S10x150 .f32) : FVec Ideal S65536x150 .f32 :=
  fun j => ∑ k : Fin 10, x (ix2 (j 0) k) * w (ix2 k (j 1))

/-- The reference's one operation is that product. -/
theorem dot_eq (x : FVec Ideal S65536x10 .f32) (w : FVec Ideal S10x150 .f32) :
    Host.dotGeneral dot_S65536x10_S10x150_S65536x150_1_0_0_1_n_n none x w = product x w := by
  funext j
  pointwise [product]

end Cert.ReferenceIdeal.Product

end
-- ==== Proof.Array.lean ====
/-
  What the kernel's result array holds when the grid has been walked: the product of the two argument matrices. Point `t` writes
  rows `16384 t` to `16384 t + 16383`; the left operand of its block is the same range of columns of the array that the host
  transposed, so the same range of rows of the argument; the four row ranges tile the result.
-/
module

public import proofs.«01_k».proof.Proof.Block
public import proofs.«01_k».proof.Proof.Product
public import proofs.«01_k».proof.Proof.Gen.KernelIdeal.Value
public import Idealize.ShloMosaic.Lib.Pipeline.Value
public import Idealize.ShloMosaic.Lib.StableHlo.Run

@[expose] public section

noncomputable section

namespace Cert.KernelIdeal.Whole

open Cert.KernelIdeal Cert.KernelIdeal.Gen Idealize.ShloMosaic Idealize.ShloMosaic.TcCoe Idealize.SL.Sem
open Cert.ReferenceIdeal.Product (product)

variable (m : (ℓ : Loc nD τ sig) → Buf (Elt Ideal) ℓ) (ρ : Dev nD → PrngReg)

/-- The product of device `c`'s two arguments, as contents of the result array. -/
abbrev result (c : Dev nD) : Buf (Elt Ideal) ((c : Thread nD τ).loc main_v0) :=
  product (m ((c : Thread nD τ).loc main_arg0)) (m ((c : Thread nD τ).loc main_arg1))

/-- The region finds the left window's array as the transpose of the first argument. -/
theorem entry_left (c : Dev nD) :
    V m c main_call0_v0 = transpose S10x65536 [1, 0] (m ((c : Thread nD τ).loc main_arg0)) transposes_S65536x10_S10x65536_1_0 := by
  unfold V
  after_results
  rfl

/-- The left window at point `t` starts at column `16384 t`, the right one is its whole array, and the output window starts at
    row `16384 t`. -/
theorem offsets (t : Fin cfg0.N) :
    win0_0.index t 0 = 0 ∧ win0_0.index t 1 = t.val ∧ win0_1.index t 0 = 0 ∧ win0_1.index t 1 = 0
      ∧ win0_2.index t 0 = t.val ∧ win0_2.index t 1 = 0 := by
  rcases fin_N0 t with rfl | rfl | rfl | rfl <;> decide +kernel

/-- The row of the whole array that is row `r` of block `t`. -/
def row (t : Fin cfg0.N) (r : Fin 16384) : Fin 65536 :=
  ⟨t.val * 16384 + r.val, by have := t.isLt; have : cfg0.N = 4 := N_0; have := r.isLt; omega⟩

/-- Column `r` of the left block at point `t` is row `16384 t + r` of the first argument. -/
theorem left_apply (c : Dev nD) (t : Fin cfg0.N) (k : Fin 10) (r : Fin 16384) :
    iblk m c 0 t (ix2 k r) = m ((c : Thread nD τ).loc main_arg0) (ix2 (row t r) k) := by
  obtain ⟨h0, h1, -⟩ := offsets t
  have e : iblk m c 0 t (ix2 k r) = V m c main_call0_v0 (ix2 k (row t r)) := by
    show V m c main_call0_v0 ((win0_0.rect t).emb (ix2 k r)) = _
    congr 1
    funext a
    apply Fin.ext
    match a with
    | ⟨0, _⟩ => show win0_0.index t 0 * 10 + 1 * k.val = k.val; rw [h0]; omega
    | ⟨1, _⟩ => show win0_0.index t 1 * 16384 + 1 * r.val = t.val * 16384 + r.val; rw [h1]; omega
  rw [e, entry_left]
  pointwise

/-- The right block at every point is the second argument. -/
theorem right_apply (c : Dev nD) (t : Fin cfg0.N) (k : Fin 10) (n : Fin 150) :
    iblk m c 1 t (ix2 k n) = m ((c : Thread nD τ).loc main_arg1) (ix2 k n) := by
  obtain ⟨-, -, h0, h1, -⟩ := offsets t
  rw [← V_main_arg1 m c]
  show V m c main_arg1 ((win0_1.rect t).emb (ix2 k n)) = _
  congr 1
  funext a
  apply Fin.ext
  match a with
  | ⟨0, _⟩ => show win0_1.index t 0 * 10 + 1 * k.val = k.val; rw [h0]; omega
  | ⟨1, _⟩ => show win0_1.index t 1 * 150 + 1 * n.val = n.val; rw [h1]; omega

/-- Offsets that are literally zero are the zero function. -/
theorem zero_offsets : (![0, 0] : Fin 2 → Nat) = fun _ => 0 := by
  funext a; fin_cases a <;> rfl

/-- What point `t` writes back is its block of the product. -/
theorem flushed_eq (c : Dev nD) (t : Fin cfg0.N) :
    (dats m 0 c).flushed 2 t = ((cfg0.win 2).blk t).view.read (Elt Ideal) (result m c) := by
  obtain ⟨-, -, -, -, h0, h1⟩ := offsets t
  rw [Value.flushed2]
  unfold out0_2
  rw [View.canon_unit_zero zero_offsets, View.ld_unit_zero zero_offsets, View.ld_unit_zero zero_offsets]
  funext j
  show k0_pay1 (F := Ideal) (iblk m c 0 t) (iblk m c 1 t) j = result m c ((win0_2.rect t).emb j)
  have e : (win0_2.rect t).emb j = ix2 (row t (j 0)) (j 1) := by
    funext a
    apply Fin.ext
    match a with
    | ⟨0, _⟩ => show win0_2.index t 0 * 16384 + 1 * (j 0).val = t.val * 16384 + (j 0).val; rw [h0]; omega
    | ⟨1, _⟩ => show win0_2.index t 1 * 150 + 1 * (j 1).val = (j 1).val; rw [h1]; omega
  rw [Block.payload_apply, e]
  show _ = ∑ k : Fin 10, _
  exact Finset.sum_congr rfl fun k _ => congrArg₂ (· * ·) (left_apply m c t k (j 0)) (right_apply m c t k (j 1))

/-- The four row ranges tile the result: row `i` is in the block of point `i / 16384`. -/
theorem cover (i : S65536x150.Idx) :
    ∃ t : Fin cfg0.N, (cfg0.win 2).flush t = true ∧ i ∈ ((cfg0.win 2).blk t).view.set := by
  have hi : (i 0 : Nat) < 65536 := (i 0).isLt
  have hn : (i 1 : Nat) < 150 := (i 1).isLt
  have hN : cfg0.N = 4 := N_0
  let t : Fin cfg0.N := ⟨(i 0 : Nat) / 16384, by omega⟩
  obtain ⟨-, -, -, -, h0, h1⟩ := offsets t
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 16384 ≤ (i 0 : Nat) ∧ (i 0 : Nat) < win0_2.index t 0 * 16384 + 16384
    rw [h0]; dsimp only [t]; omega
  | ⟨1, _⟩ =>
    show win0_2.index t 1 * 150 ≤ (i 1 : Nat) ∧ (i 1 : Nat) < win0_2.index t 1 * 150 + 150
    rw [h1]; omega

/-- So the result array ends holding the product. -/
theorem final (c : Dev nD) : (dats m 0 c).arrAt 2 cfg0.N = result m c :=
  (dats m 0 c).arrAt_eq_of_cover 2 (result m c) (fun t _ => flushed_eq m c t) cover

/-- The kernel's run: the result is the product of the arguments, which are left as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Whole

end
-- ==== Proof.lean ====
/-
  The proof of `Cert.Claim`: the three frames, the idealization (which rewrites nothing), and the algebraic claim, that the
  tiled kernel over the transposed left operand and the host's one `dot` compute the same function over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Block
public import proofs.«01_k».proof.Proof.Product
public import proofs.«01_k».proof.Proof.Array
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were, and it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference, from equal arguments, end with equal results: both hold the product of the two matrices. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Whole.result m c, Cert.KernelIdeal.Whole.run m ρ, ?_⟩
  refine (θ_run Cert.ReferenceIdeal.defs _ _).mono (fun r h c => ⟨(h c).1.trans ?_, (h c).2⟩)
    (Cert.ReferenceIdeal.Value.run (F := Ideal) m' ρ')
  rw [(hargs c).1, (hargs c).2]
  exact Cert.ReferenceIdeal.Product.dot_eq _ _

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
